-- ==== Defs.lean ====
def Pre_Linear (m : (ℓ : Loc Cert.Linear.nD Cert.Linear.τ Cert.Linear.sig) → Buf (Elt Bits) ℓ) : Prop :=
  True

def Pre_LinearIdeal (m : (ℓ : Loc Cert.LinearIdeal.nD Cert.LinearIdeal.τ Cert.LinearIdeal.sig) → Buf (Elt Ideal) ℓ) : Prop :=
  True

def Pre_LinearReferenceIdeal (m : (ℓ : Loc Cert.LinearReferenceIdeal.nD Cert.LinearReferenceIdeal.τ Cert.LinearReferenceIdeal.sig) → Buf (Elt Ideal) ℓ) : Prop :=
  True

def quiescent_Linear [hLinear : Cert.Linear.Facts] : Prop :=
  ∀ (m : (ℓ : Loc Cert.Linear.nD Cert.Linear.τ Cert.Linear.sig) → Buf (Elt Bits) ℓ) (g : Dev Cert.Linear.nD → PrngReg), Pre_Linear m →
    θ_run (Cert.Linear.defs (F := Bits)) (onTc (τ := Cert.Linear.τ) (Cert.Linear.main (F := Bits))) ⟨m, fun _ => 0, g⟩ (fun r => (∀ c : Dev Cert.Linear.nD,
      r.2.mem ((c.tc : Thread Cert.Linear.nD Cert.Linear.τ).loc Cert.Linear.main_arg0) = m ((c.tc : Thread Cert.Linear.nD Cert.Linear.τ).loc Cert.Linear.main_arg0)
      ∧ r.2.mem ((c.tc : Thread Cert.Linear.nD Cert.Linear.τ).loc Cert.Linear.main_arg1) = m ((c.tc : Thread Cert.Linear.nD Cert.Linear.τ).loc Cert.Linear.main_arg1)
      ∧ r.2.mem ((c.tc : Thread Cert.Linear.nD Cert.Linear.τ).loc Cert.Linear.main_arg2) = m ((c.tc : Thread Cert.Linear.nD Cert.Linear.τ).loc Cert.Linear.main_arg2)
      ∧ r.2.mem ((c.tc : Thread Cert.Linear.nD Cert.Linear.τ).loc Cert.Linear.main_arg3) = m ((c.tc : Thread Cert.Linear.nD Cert.Linear.τ).loc Cert.Linear.main_arg3)
      ∧ r.2.mem ((c.tc : Thread Cert.Linear.nD Cert.Linear.τ).loc Cert.Linear.main_arg4) = m ((c.tc : Thread Cert.Linear.nD Cert.Linear.τ).loc Cert.Linear.main_arg4)
      ∧ r.2.mem ((c.tc : Thread Cert.Linear.nD Cert.Linear.τ).loc Cert.Linear.main_arg5) = m ((c.tc : Thread Cert.Linear.nD Cert.Linear.τ).loc Cert.Linear.main_arg5)
      ∧ r.2.mem ((c.tc : Thread Cert.Linear.nD Cert.Linear.τ).loc Cert.Linear.main_arg6) = m ((c.tc : Thread Cert.Linear.nD Cert.Linear.τ).loc Cert.Linear.main_arg6)
      ∧ r.2.mem ((c.tc : Thread Cert.Linear.nD Cert.Linear.τ).loc Cert.Linear.main_arg7) = m ((c.tc : Thread Cert.Linear.nD Cert.Linear.τ).loc Cert.Linear.main_arg7))
      ∧ r.2.sem = fun _ => 0)

def quiescent_LinearIdeal [hLinearIdeal : Cert.LinearIdeal.Facts] : Prop :=
  ∀ (m : (ℓ : Loc Cert.LinearIdeal.nD Cert.LinearIdeal.τ Cert.LinearIdeal.sig) → Buf (Elt Ideal) ℓ) (g : Dev Cert.LinearIdeal.nD → PrngReg), Pre_LinearIdeal m →
    θ_run (Cert.LinearIdeal.defs (F := Ideal)) (onTc (τ := Cert.LinearIdeal.τ) (Cert.LinearIdeal.main (F := Ideal))) ⟨m, fun _ => 0, g⟩ (fun r => (∀ c : Dev Cert.LinearIdeal.nD,
      r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
      ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
      ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2)
      ∧ r.2.mem ((c.tc : Thread Cert.LinearIdeal.nD Cert.LinearIdeal.τ).loc Cert.LinearIdeal.main_arg3) = m ((c.tc : Thread Cert.LinearIdeal.nD Cert.LinearIdeal.τ).loc Cert.LinearIdeal.main_arg3)
      ∧ r.2.mem ((c.tc : Thread Cert.LinearIdeal.nD Cert.LinearIdeal.τ).loc Cert.LinearIdeal.main_arg4) = m ((c.tc : Thread Cert.LinearIdeal.nD Cert.LinearIdeal.τ).loc Cert.LinearIdeal.main_arg4)
      ∧ r.2.mem ((c.tc : Thread Cert.LinearIdeal.nD Cert.LinearIdeal.τ).loc Cert.LinearIdeal.main_arg5) = m ((c.tc : Thread Cert.LinearIdeal.nD Cert.LinearIdeal.τ).loc Cert.LinearIdeal.main_arg5)
      ∧ r.2.mem ((c.tc : Thread Cert.LinearIdeal.nD Cert.LinearIdeal.τ).loc Cert.LinearIdeal.main_arg6) = m ((c.tc : Thread Cert.LinearIdeal.nD Cert.LinearIdeal.τ).loc Cert.LinearIdeal.main_arg6)
      ∧ r.2.mem ((c.tc : Thread Cert.LinearIdeal.nD Cert.LinearIdeal.τ).loc Cert.LinearIdeal.main_arg7) = m ((c.tc : Thread Cert.LinearIdeal.nD Cert.LinearIdeal.τ).loc Cert.LinearIdeal.main_arg7))
      ∧ r.2.sem = fun _ => 0)

def quiescent_LinearReferenceIdeal [hLinearReferenceIdeal : Cert.LinearReferenceIdeal.Facts] : Prop :=
  ∀ (m : (ℓ : Loc Cert.LinearReferenceIdeal.nD Cert.LinearReferenceIdeal.τ Cert.LinearReferenceIdeal.sig) → Buf (Elt Ideal) ℓ) (g : Dev Cert.LinearReferenceIdeal.nD → PrngReg), Pre_LinearReferenceIdeal m →
    θ_run (Cert.LinearReferenceIdeal.defs (F := Ideal)) (onTc (τ := Cert.LinearReferenceIdeal.τ) (Cert.LinearReferenceIdeal.main (F := Ideal))) ⟨m, fun _ => 0, g⟩ (fun r => (∀ c : Dev Cert.LinearReferenceIdeal.nD,
      r.2.mem ((c.tc : Thread Cert.LinearReferenceIdeal.nD Cert.LinearReferenceIdeal.τ).loc Cert.LinearReferenceIdeal.main_arg0) = m ((c.tc : Thread Cert.LinearReferenceIdeal.nD Cert.LinearReferenceIdeal.τ).loc Cert.LinearReferenceIdeal.main_arg0)
      ∧ r.2.mem ((c.tc : Thread Cert.LinearReferenceIdeal.nD Cert.LinearReferenceIdeal.τ).loc Cert.LinearReferenceIdeal.main_arg1) = m ((c.tc : Thread Cert.LinearReferenceIdeal.nD Cert.LinearReferenceIdeal.τ).loc Cert.LinearReferenceIdeal.main_arg1)
      ∧ r.2.mem ((c.tc : Thread Cert.LinearReferenceIdeal.nD Cert.LinearReferenceIdeal.τ).loc Cert.LinearReferenceIdeal.main_arg2) = m ((c.tc : Thread Cert.LinearReferenceIdeal.nD Cert.LinearReferenceIdeal.τ).loc Cert.LinearReferenceIdeal.main_arg2)
      ∧ r.2.mem ((c.tc : Thread Cert.LinearReferenceIdeal.nD Cert.LinearReferenceIdeal.τ).loc Cert.LinearReferenceIdeal.main_arg3) = m ((c.tc : Thread Cert.LinearReferenceIdeal.nD Cert.LinearReferenceIdeal.τ).loc Cert.LinearReferenceIdeal.main_arg3)
      ∧ r.2.mem ((c.tc : Thread Cert.LinearReferenceIdeal.nD Cert.LinearReferenceIdeal.τ).loc Cert.LinearReferenceIdeal.main_arg4) = m ((c.tc : Thread Cert.LinearReferenceIdeal.nD Cert.LinearReferenceIdeal.τ).loc Cert.LinearReferenceIdeal.main_arg4)
      ∧ r.2.mem ((c.tc : Thread Cert.LinearReferenceIdeal.nD Cert.LinearReferenceIdeal.τ).loc Cert.LinearReferenceIdeal.main_arg5) = m ((c.tc : Thread Cert.LinearReferenceIdeal.nD Cert.LinearReferenceIdeal.τ).loc Cert.LinearReferenceIdeal.main_arg5)
      ∧ r.2.mem ((c.tc : Thread Cert.LinearReferenceIdeal.nD Cert.LinearReferenceIdeal.τ).loc Cert.LinearReferenceIdeal.main_arg6) = m ((c.tc : Thread Cert.LinearReferenceIdeal.nD Cert.LinearReferenceIdeal.τ).loc Cert.LinearReferenceIdeal.main_arg6)
      ∧ r.2.mem ((c.tc : Thread Cert.LinearReferenceIdeal.nD Cert.LinearReferenceIdeal.τ).loc Cert.LinearReferenceIdeal.main_arg7) = m ((c.tc : Thread Cert.LinearReferenceIdeal.nD Cert.LinearReferenceIdeal.τ).loc Cert.LinearReferenceIdeal.main_arg7))
      ∧ r.2.sem = fun _ => 0)

def preserves_Linear_LinearIdeal : Prop :=
  True

def algebraic_LinearIdeal_LinearReferenceIdeal [hLinearIdeal : Cert.LinearIdeal.Facts] [hLinearReferenceIdeal : Cert.LinearReferenceIdeal.Facts] : Prop :=
  ∀ (m : (ℓ : Loc Cert.LinearIdeal.nD Cert.LinearIdeal.τ Cert.LinearIdeal.sig) → Buf (Elt Ideal) ℓ) (g : Dev Cert.LinearIdeal.nD → PrngReg)
    (m' : (ℓ : Loc Cert.LinearReferenceIdeal.nD Cert.LinearReferenceIdeal.τ Cert.LinearReferenceIdeal.sig) → Buf (Elt Ideal) ℓ) (g' : Dev Cert.LinearReferenceIdeal.nD → PrngReg), Pre_LinearIdeal m →
    (∀ c : Dev Cert.LinearIdeal.nD,
      m' ((c.tc : Thread Cert.LinearReferenceIdeal.nD Cert.LinearReferenceIdeal.τ).loc Cert.LinearReferenceIdeal.main_arg0) = m ((c.tc : Thread Cert.LinearIdeal.nD Cert.LinearIdeal.τ).loc Cert.LinearIdeal.main_arg0)
      ∧ m' ((c.tc : Thread Cert.LinearReferenceIdeal.nD Cert.LinearReferenceIdeal.τ).loc Cert.LinearReferenceIdeal.main_arg1) = m ((c.tc : Thread Cert.LinearIdeal.nD Cert.LinearIdeal.τ).loc Cert.LinearIdeal.main_arg1)
      ∧ m' ((c.tc : Thread Cert.LinearReferenceIdeal.nD Cert.LinearReferenceIdeal.τ).loc Cert.LinearReferenceIdeal.main_arg2) = m ((c.tc : Thread Cert.LinearIdeal.nD Cert.LinearIdeal.τ).loc Cert.LinearIdeal.main_arg2)
      ∧ m' ((c.tc : Thread Cert.LinearReferenceIdeal.nD Cert.LinearReferenceIdeal.τ).loc Cert.LinearReferenceIdeal.main_arg3) = m ((c.tc : Thread Cert.LinearIdeal.nD Cert.LinearIdeal.τ).loc Cert.LinearIdeal.main_arg3)
      ∧ m' ((c.tc : Thread Cert.LinearReferenceIdeal.nD Cert.LinearReferenceIdeal.τ).loc Cert.LinearReferenceIdeal.main_arg4) = m ((c.tc : Thread Cert.LinearIdeal.nD Cert.LinearIdeal.τ).loc Cert.LinearIdeal.main_arg4)
      ∧ m' ((c.tc : Thread Cert.LinearReferenceIdeal.nD Cert.LinearReferenceIdeal.τ).loc Cert.LinearReferenceIdeal.main_arg5) = m ((c.tc : Thread Cert.LinearIdeal.nD Cert.LinearIdeal.τ).loc Cert.LinearIdeal.main_arg5)
      ∧ m' ((c.tc : Thread Cert.LinearReferenceIdeal.nD Cert.LinearReferenceIdeal.τ).loc Cert.LinearReferenceIdeal.main_arg6) = m ((c.tc : Thread Cert.LinearIdeal.nD Cert.LinearIdeal.τ).loc Cert.LinearIdeal.main_arg6)
      ∧ m' ((c.tc : Thread Cert.LinearReferenceIdeal.nD Cert.LinearReferenceIdeal.τ).loc Cert.LinearReferenceIdeal.main_arg7) = m ((c.tc : Thread Cert.LinearIdeal.nD Cert.LinearIdeal.τ).loc Cert.LinearIdeal.main_arg7)) →
    ∃ (v0 : (c : Dev Cert.LinearIdeal.nD) → Buf (Elt Ideal) ((c.tc : Thread Cert.LinearIdeal.nD Cert.LinearIdeal.τ).loc Cert.LinearIdeal.main_v2)),
      θ_run (Cert.LinearIdeal.defs (F := Ideal)) (onTc (τ := Cert.LinearIdeal.τ) (Cert.LinearIdeal.main (F := Ideal))) ⟨m, fun _ => 0, g⟩ (fun r => ∀ c : Dev Cert.LinearIdeal.nD,
          r.2.mem ((c.tc : Thread Cert.LinearIdeal.nD Cert.LinearIdeal.τ).loc Cert.LinearIdeal.main_v2) = v0 c
          ∧ r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
          ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
          ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2)
          ∧ r.2.mem ((c.tc : Thread Cert.LinearIdeal.nD Cert.LinearIdeal.τ).loc Cert.LinearIdeal.main_arg3) = m ((c.tc : Thread Cert.LinearIdeal.nD Cert.LinearIdeal.τ).loc Cert.LinearIdeal.main_arg3)
          ∧ r.2.mem ((c.tc : Thread Cert.LinearIdeal.nD Cert.LinearIdeal.τ).loc Cert.LinearIdeal.main_arg4) = m ((c.tc : Thread Cert.LinearIdeal.nD Cert.LinearIdeal.τ).loc Cert.LinearIdeal.main_arg4)
          ∧ r.2.mem ((c.tc : Thread Cert.LinearIdeal.nD Cert.LinearIdeal.τ).loc Cert.LinearIdeal.main_arg5) = m ((c.tc : Thread Cert.LinearIdeal.nD Cert.LinearIdeal.τ).loc Cert.LinearIdeal.main_arg5)
          ∧ r.2.mem ((c.tc : Thread Cert.LinearIdeal.nD Cert.LinearIdeal.τ).loc Cert.LinearIdeal.main_arg6) = m ((c.tc : Thread Cert.LinearIdeal.nD Cert.LinearIdeal.τ).loc Cert.LinearIdeal.main_arg6)
          ∧ r.2.mem ((c.tc : Thread Cert.LinearIdeal.nD Cert.LinearIdeal.τ).loc Cert.LinearIdeal.main_arg7) = m ((c.tc : Thread Cert.LinearIdeal.nD Cert.LinearIdeal.τ).loc Cert.LinearIdeal.main_arg7))
      ∧ θ_run (Cert.LinearReferenceIdeal.defs (F := Ideal)) (onTc (τ := Cert.LinearReferenceIdeal.τ) (Cert.LinearReferenceIdeal.main (F := Ideal))) ⟨m', fun _ => 0, g'⟩ (fun r => ∀ c : Dev Cert.LinearReferenceIdeal.nD,
          r.2.mem ((c.tc : Thread Cert.LinearReferenceIdeal.nD Cert.LinearReferenceIdeal.τ).loc Cert.LinearReferenceIdeal.main_v2) = v0 c
          ∧ r.2.mem ((c.tc : Thread Cert.LinearReferenceIdeal.nD Cert.LinearReferenceIdeal.τ).loc Cert.LinearReferenceIdeal.main_arg0) = m' ((c.tc : Thread Cert.LinearReferenceIdeal.nD Cert.LinearReferenceIdeal.τ).loc Cert.LinearReferenceIdeal.main_arg0)
          ∧ r.2.mem ((c.tc : Thread Cert.LinearReferenceIdeal.nD Cert.LinearReferenceIdeal.τ).loc Cert.LinearReferenceIdeal.main_arg1) = m' ((c.tc : Thread Cert.LinearReferenceIdeal.nD Cert.LinearReferenceIdeal.τ).loc Cert.LinearReferenceIdeal.main_arg1)
          ∧ r.2.mem ((c.tc : Thread Cert.LinearReferenceIdeal.nD Cert.LinearReferenceIdeal.τ).loc Cert.LinearReferenceIdeal.main_arg2) = m' ((c.tc : Thread Cert.LinearReferenceIdeal.nD Cert.LinearReferenceIdeal.τ).loc Cert.LinearReferenceIdeal.main_arg2)
          ∧ r.2.mem ((c.tc : Thread Cert.LinearReferenceIdeal.nD Cert.LinearReferenceIdeal.τ).loc Cert.LinearReferenceIdeal.main_arg3) = m' ((c.tc : Thread Cert.LinearReferenceIdeal.nD Cert.LinearReferenceIdeal.τ).loc Cert.LinearReferenceIdeal.main_arg3)
          ∧ r.2.mem ((c.tc : Thread Cert.LinearReferenceIdeal.nD Cert.LinearReferenceIdeal.τ).loc Cert.LinearReferenceIdeal.main_arg4) = m' ((c.tc : Thread Cert.LinearReferenceIdeal.nD Cert.LinearReferenceIdeal.τ).loc Cert.LinearReferenceIdeal.main_arg4)
          ∧ r.2.mem ((c.tc : Thread Cert.LinearReferenceIdeal.nD Cert.LinearReferenceIdeal.τ).loc Cert.LinearReferenceIdeal.main_arg5) = m' ((c.tc : Thread Cert.LinearReferenceIdeal.nD Cert.LinearReferenceIdeal.τ).loc Cert.LinearReferenceIdeal.main_arg5)
          ∧ r.2.mem ((c.tc : Thread Cert.LinearReferenceIdeal.nD Cert.LinearReferenceIdeal.τ).loc Cert.LinearReferenceIdeal.main_arg6) = m' ((c.tc : Thread Cert.LinearReferenceIdeal.nD Cert.LinearReferenceIdeal.τ).loc Cert.LinearReferenceIdeal.main_arg6)
          ∧ r.2.mem ((c.tc : Thread Cert.LinearReferenceIdeal.nD Cert.LinearReferenceIdeal.τ).loc Cert.LinearReferenceIdeal.main_arg7) = m' ((c.tc : Thread Cert.LinearReferenceIdeal.nD Cert.LinearReferenceIdeal.τ).loc Cert.LinearReferenceIdeal.main_arg7))

def Claim : Prop :=
  ∃ (hLinear : Cert.Linear.Facts) (hLinearIdeal : Cert.LinearIdeal.Facts) (hLinearReferenceIdeal : Cert.LinearReferenceIdeal.Facts),
    quiescent_Linear (hLinear := hLinear)
    ∧ quiescent_LinearIdeal (hLinearIdeal := hLinearIdeal)
    ∧ quiescent_LinearReferenceIdeal (hLinearReferenceIdeal := hLinearReferenceIdeal)
    ∧ preserves_Linear_LinearIdeal
    ∧ algebraic_LinearIdeal_LinearReferenceIdeal (hLinearIdeal := hLinearIdeal) (hLinearReferenceIdeal := hLinearReferenceIdeal)
-- ==== Linear.lean ====
abbrev S16384x896 : Shape := ⟨2, ![16384, 896]⟩
abbrev S16384x6272 : Shape := ⟨2, ![16384, 6272]⟩
abbrev S16384x128 : Shape := ⟨2, ![16384, 128]⟩
abbrev S896x18432 : Shape := ⟨2, ![896, 18432]⟩
abbrev S18432 : Shape := ⟨1, ![18432]⟩
abbrev S3136x18432 : Shape := ⟨2, ![3136, 18432]⟩
abbrev S1x18432 : Shape := ⟨2, ![1, 18432]⟩
abbrev S16384x18432 : Shape := ⟨2, ![16384, 18432]⟩
abbrev S512x896 : Shape := ⟨2, ![512, 896]⟩
abbrev S512x6272 : Shape := ⟨2, ![512, 6272]⟩
abbrev S512x128 : Shape := ⟨2, ![512, 128]⟩
abbrev S896x1024 : Shape := ⟨2, ![896, 1024]⟩
abbrev S3136x1024 : Shape := ⟨2, ![3136, 1024]⟩
abbrev S1x1024 : Shape := ⟨2, ![1, 1024]⟩
abbrev S512x1024 : Shape := ⟨2, ![512, 1024]⟩
abbrev S6272x1024 : Shape := ⟨2, ![6272, 1024]⟩
abbrev S64x1024 : Shape := ⟨2, ![64, 1024]⟩
abbrev S512x1 : Shape := ⟨2, ![512, 1]⟩

abbrev nBuf : Space → Nat
  | .hbm => 11
  | .vmem => 20
  | .smem => 0
  | _ => 0

abbrev bufTy : (tb : Table) → Fin (tcTables nBuf tb) → BufTy
  | .hbm, ⟨0, _⟩ => ⟨S16384x896, .i8⟩
  | .hbm, ⟨1, _⟩ => ⟨S16384x6272, .i8⟩
  | .hbm, ⟨2, _⟩ => ⟨S16384x128, .f32⟩
  | .hbm, ⟨3, _⟩ => ⟨S16384x128, .f32⟩
  | .hbm, ⟨4, _⟩ => ⟨S896x18432, .i8⟩
  | .hbm, ⟨5, _⟩ => ⟨S18432, .f32⟩
  | .hbm, ⟨6, _⟩ => ⟨S3136x18432, .i8⟩
  | .hbm, ⟨7, _⟩ => ⟨S18432, .f32⟩
  | .hbm, ⟨8, _⟩ => ⟨S1x18432, .f32⟩
  | .hbm, ⟨9, _⟩ => ⟨S1x18432, .f32⟩
  | .hbm, ⟨10, _⟩ => ⟨S16384x18432, .bf16⟩
  | .local _ .vmem, ⟨0, _⟩ => ⟨S512x896, .i8⟩
  | .local _ .vmem, ⟨1, _⟩ => ⟨S512x896, .i8⟩
  | .local _ .vmem, ⟨2, _⟩ => ⟨S512x6272, .i8⟩
  | .local _ .vmem, ⟨3, _⟩ => ⟨S512x6272, .i8⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S896x1024, .i8⟩
  | .local _ .vmem, ⟨9, _⟩ => ⟨S896x1024, .i8⟩
  | .local _ .vmem, ⟨10, _⟩ => ⟨S3136x1024, .i8⟩
  | .local _ .vmem, ⟨11, _⟩ => ⟨S3136x1024, .i8⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S896x1024, .bf16⟩
  | .local _ .vmem, ⟨19, _⟩ => ⟨S6272x1024, .bf16⟩
  | _, _ => ⟨S16384x896, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![18, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x896 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x6272 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S896x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3136x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== LinearReferenceIdeal.lean ====
abbrev S16384x896 : Shape := ⟨2, ![16384, 896]⟩
abbrev S16384x6272 : Shape := ⟨2, ![16384, 6272]⟩
abbrev S16384x128 : Shape := ⟨2, ![16384, 128]⟩
abbrev S896x18432 : Shape := ⟨2, ![896, 18432]⟩
abbrev S18432 : Shape := ⟨1, ![18432]⟩
abbrev S3136x18432 : Shape := ⟨2, ![3136, 18432]⟩
abbrev S1x18432 : Shape := ⟨2, ![1, 18432]⟩
abbrev S16384x18432 : Shape := ⟨2, ![16384, 18432]⟩
abbrev S16384x3136 : Shape := ⟨2, ![16384, 3136]⟩
abbrev S16384x1 : Shape := ⟨2, ![16384, 1]⟩

abbrev nBuf : Space → Nat
  | .hbm => 11
  | .vmem => 9
  | .smem => 0
  | _ => 0

abbrev bufTy : (tb : Table) → Fin (tcTables nBuf tb) → BufTy
  | .hbm, ⟨0, _⟩ => ⟨S16384x896, .i8⟩
  | .hbm, ⟨1, _⟩ => ⟨S16384x6272, .i8⟩
  | .hbm, ⟨2, _⟩ => ⟨S16384x128, .f32⟩
  | .hbm, ⟨3, _⟩ => ⟨S16384x128, .f32⟩
  | .hbm, ⟨4, _⟩ => ⟨S896x18432, .i8⟩
  | .hbm, ⟨5, _⟩ => ⟨S18432, .f32⟩
  | .hbm, ⟨6, _⟩ => ⟨S3136x18432, .i8⟩
  | .hbm, ⟨7, _⟩ => ⟨S18432, .f32⟩
  | .hbm, ⟨8, _⟩ => ⟨S1x18432, .f32⟩
  | .hbm, ⟨9, _⟩ => ⟨S1x18432, .f32⟩
  | .hbm, ⟨10, _⟩ => ⟨S16384x18432, .bf16⟩
  | .local _ .vmem, ⟨0, _⟩ => ⟨S16384x896, .i8⟩
  | .local _ .vmem, ⟨1, _⟩ => ⟨S16384x6272, .i8⟩
  | .local _ .vmem, ⟨2, _⟩ => ⟨S16384x128, .f32⟩
  | .local _ .vmem, ⟨3, _⟩ => ⟨S16384x128, .f32⟩
  | .local _ .vmem, ⟨4, _⟩ => ⟨S896x18432, .i8⟩
  | .local _ .vmem, ⟨5, _⟩ => ⟨S1x18432, .f32⟩
  | .local _ .vmem, ⟨6, _⟩ => ⟨S3136x18432, .i8⟩
  | .local _ .vmem, ⟨7, _⟩ => ⟨S1x18432, .f32⟩
  | .local _ .vmem, ⟨8, _⟩ => ⟨S16384x18432, .bf16⟩
  | _, _ => ⟨S16384x896, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16384x896 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x6272 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S896x18432 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x18432 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3136x18432 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x18432 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x18432 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.LinearSpec.lean ====
/-
  The function both linear programs compute, over the reals extended by ±∞: `y = sh ⊗ whs · (xh · wh) + sl ⊗ wls · (xl · wl)`
  with `wl` unpacked from four-bit halves, low halves in rows 0 to 3135 and high halves in rows 3136 to 6271.
-/
module

public import Idealize.ShloMosaic.Lib.Pointwise

@[expose] public section

noncomputable section

open Idealize.ShloMosaic

namespace Cert.Nibble

/-- A four-bit number `v` (0 to 15) read as a signed one: 8 to 15 stand for −8 to −1. -/
def signed (v : BitVec 32) : BitVec 32 := Scalar.select (IntOp.cmpi .sge v 8#32) (IntOp.subi v 16#32) v

/-- The low half of a byte as a signed four-bit number. -/
def low (b : BitVec 8) : BitVec 32 := signed (IntOp.andi (b.setWidth 32) 15#32)

/-- The high half of a byte as a signed four-bit number. -/
def high (b : BitVec 8) : BitVec 32 := signed (IntOp.shrsi .vector (b.setWidth 32) 4#32)

end Cert.Nibble

namespace Cert.Spec

/-- An integer as an extended real. -/
abbrev int {w : Nat} (b : BitVec w) : Ideal .bf16 := FloatOps.sitofp .bf16 b

/-- The mixed linear layer at row `r`, column `l`. -/
def linear (xh : Vec Ideal (⟨2, ![16384, 896]⟩ : Shape) .i8) (xl : Vec Ideal (⟨2, ![16384, 6272]⟩ : Shape) .i8)
    (sh sl : Vec Ideal (⟨2, ![16384, 128]⟩ : Shape) .f32) (wh : Vec Ideal (⟨2, ![896, 18432]⟩ : Shape) .i8)
    (whs : Vec Ideal (⟨1, ![18432]⟩ : Shape) .f32) (wp : Vec Ideal (⟨2, ![3136, 18432]⟩ : Shape) .i8)
    (wls : Vec Ideal (⟨1, ![18432]⟩ : Shape) .f32) (r : Fin 16384) (l : Fin 18432) : EReal :=
  sh (ix2 r 0) * whs (ix1 l) * (∑ k : Fin 896, int (xh (ix2 r k)) * int (wh (ix2 k l)))
    + sl (ix2 r 0) * wls (ix1 l) *
      ((∑ k : Fin 3136, int (xl (ix2 r ⟨k.val, by omega⟩)) * int (Nibble.low (wp (ix2 k l))))
        + ∑ k : Fin 3136, int (xl (ix2 r ⟨3136 + k.val, by omega⟩)) * int (Nibble.high (wp (ix2 k l))))

/-- A sum over 6272 rows is the sum over the first 3136 and over the last 3136. -/
theorem sum_halves (f : Fin 6272 → EReal) :
    ∑ k : Fin 6272, f k = (∑ k : Fin 3136, f ⟨k.val, by omega⟩) + ∑ k : Fin 3136, f ⟨3136 + k.val, by omega⟩ :=
  Fin.sum_univ_add (a := 3136) (b := 3136) f

end Cert.Spec
-- ==== Proof.LinearUnpack.lean ====
/-
  What the linear kernel keeps in its two scratch buffers: the integer weights of the current column block as bf16.

  At the first row block of each column block the kernel copies the eight-bit weights (converted) into the first
  scratch buffer, and unpacks the four-bit weights, 64 packed rows at a time, into the second one: the low nibbles of
  packed row `r` go to row `r`, the high nibbles to row `3136 + r`. `writes` states those 98 stores as one function of
  the packed block (`unpacked`).
-/
module

public import proofs.«01_k».proof.Proof.Gen.LinearIdeal.Value
public import proofs.«01_k».proof.Proof.LinearSpec
public import Idealize.ShloMosaic.Lib.Pipeline.Value
public import Idealize.ShloMosaic.Lib.Pipeline.ValueKit
public import Idealize.ShloMosaic.Lib.Pointwise

@[expose] public section

noncomputable section

open Idealize.ShloMosaic Idealize.ShloMosaic.TcCoe Idealize.SL.Sem

namespace Cert.LinearIdeal.Weights

open Cert.LinearIdeal Cert.LinearIdeal.Gen

variable {F : FTy → Type} [FloatOps F]

/-- The unpacked four-bit weights of a packed block: low nibbles in the first 3136 rows, high nibbles below. -/
def unpacked (P : Vec F S3136x1024 .i8) : Vec F S6272x1024 .bf16 := fun y =>
  if h : (y 0).val < 3136 then FloatOps.sitofp .bf16 (Nibble.low (P (ix2 ⟨(y 0).val, h⟩ (y 1))))
  else FloatOps.sitofp .bf16 (Nibble.high (P (ix2 ⟨(y 0).val - 3136, by have : (y 0).val < 6272 := (y 0).isLt; omega⟩ (y 1))))

/-- The payload of a low store is the low nibble of the byte loaded, at every place. -/
theorem pay_low (v : Vec F S64x1024 .i8) : k0_pay5 v = fun j => FloatOps.sitofp .bf16 (Nibble.low (v j)) := by
  unfold k0_pay5 k0_pay4
  dsimp only
  rw [shapeCast_self]
  rfl

/-- The payload of a high store is the high nibble of the byte loaded, at every place. -/
theorem pay_high (v : Vec F S64x1024 .i8) : k0_pay6 v = fun j => FloatOps.sitofp .bf16 (Nibble.high (v j)) := by
  unfold k0_pay6 k0_pay4
  dsimp only
  rw [shapeCast_self]
  rfl

/-- `unpacked` at a row of the upper half reads the low nibble of the packed byte at the same place. -/
theorem unpacked_low (P : Vec F S3136x1024 .i8) (y : S6272x1024.Idx) (z : S3136x1024.Idx) (h0 : (z 0).val = (y 0).val)
    (h1 : (z 1).val = (y 1).val) : unpacked P y = FloatOps.sitofp .bf16 (Nibble.low (P z)) := by
  have hz : (z 0).val < 3136 := (z 0).isLt
  unfold unpacked
  rw [dif_pos (by omega)]
  congr 3
  funext a
  match a with
  | ⟨0, _⟩ => exact Fin.ext h0.symm
  | ⟨1, _⟩ => exact Fin.ext h1.symm

/-- `unpacked` at a row of the lower half reads the high nibble of the packed byte 3136 rows above. -/
theorem unpacked_high (P : Vec F S3136x1024 .i8) (y : S6272x1024.Idx) (z : S3136x1024.Idx)
    (h0 : 3136 + (z 0).val = (y 0).val) (h1 : (z 1).val = (y 1).val) :
    unpacked P y = FloatOps.sitofp .bf16 (Nibble.high (P z)) := by
  unfold unpacked
  rw [dif_neg (by omega)]
  congr 3
  funext a
  match a with
  | ⟨0, _⟩ => exact Fin.ext (by show (y 0).val - 3136 = (z 0).val; omega)
  | ⟨1, _⟩ => exact Fin.ext h1.symm

/-- A store of the low nibbles of packed rows `r … r + 63` writes `unpacked` at the rows it covers. -/
theorem piece_low (P : Vec F S3136x1024 .i8) (r : ℕ) (inb inb') (j : S64x1024.Idx) :
    k0_pay5 (View.ld P (Rect.unit (s := S3136x1024) ![r, 0] S64x1024.size inb)) j
      = unpacked P ((Rect.unit (s := S6272x1024) ![r, 0] S64x1024.size inb').idx j) := by
  rw [pay_low]
  exact (unpacked_low P _ _ ((Rect.idx_unit_val _ _ inb j 0).trans (Rect.idx_unit_val _ _ inb' j 0).symm)
    ((Rect.idx_unit_val _ _ inb j 1).trans (Rect.idx_unit_val _ _ inb' j 1).symm)).symm

/-- A store of the high nibbles of packed rows `r … r + 63` at row `q = 3136 + r` writes `unpacked` there. -/
theorem piece_high (P : Vec F S3136x1024 .i8) (r q : ℕ) (hq : 3136 + r = q) (inb inb') (j : S64x1024.Idx) :
    k0_pay6 (View.ld P (Rect.unit (s := S3136x1024) ![r, 0] S64x1024.size inb)) j
      = unpacked P ((Rect.unit (s := S6272x1024) ![q, 0] S64x1024.size inb').idx j) := by
  rw [pay_high]
  have e := Rect.idx_unit_val (s := S3136x1024) ![r, 0] S64x1024.size inb j 0
  have e' := Rect.idx_unit_val (s := S6272x1024) ![q, 0] S64x1024.size inb' j 0
  exact (unpacked_high P _ _ (by rw [e, e']; show 3136 + (r + (j 0).val) = q + (j 0).val; rw [← Nat.add_assoc, hq])
    ((Rect.idx_unit_val _ _ inb j 1).trans (Rect.idx_unit_val _ _ inb' j 1).symm)).symm

/-- The stores of a list all write `unpacked P`. -/
def Writes (P : Vec F S3136x1024 .i8) (L : List (View.Piece (Elt F) S6272x1024 .bf16)) : Prop :=
  ∀ p ∈ L, ∀ j : p.1.shape.Idx, p.2 j = unpacked P (p.1.emb j)

/-- One more store of low nibbles. -/
theorem writes_low (P : Vec F S3136x1024 .i8) (r : ℕ) (inb') (w) (L)
    (hw : ∃ inb, w = k0_pay5 (View.ld P (Rect.unit (s := S3136x1024) ![r, 0] S64x1024.size inb)))
    (hL : Writes P L) : Writes P (⟨Rect.unit (s := S6272x1024) ![r, 0] S64x1024.size inb', w⟩ :: L) := by
  obtain ⟨inb, rfl⟩ := hw
  exact List.forall_mem_cons.2 ⟨fun j => piece_low P r inb inb' j, hL⟩

/-- One more store of high nibbles. -/
theorem writes_high (P : Vec F S3136x1024 .i8) (q : ℕ) (hq : 3136 + (q - 3136) = q) (inb') (w) (L)
    (hw : ∃ inb, w = k0_pay6 (View.ld P (Rect.unit (s := S3136x1024) ![q - 3136, 0] S64x1024.size inb)))
    (hL : Writes P L) : Writes P (⟨Rect.unit (s := S6272x1024) ![q, 0] S64x1024.size inb', w⟩ :: L) := by
  obtain ⟨inb, rfl⟩ := hw
  exact List.forall_mem_cons.2 ⟨fun j => piece_high P (q - 3136) q hq inb inb' j, hL⟩

set_option maxRecDepth 100000 in
set_option maxHeartbeats 1000000 in
/-- Every one of the 98 stores into the second scratch buffer writes `unpacked` of the packed block. -/
theorem writes (c : Dev nD) (a7 : Memref sig .tc .vmem S3136x1024 .i8) (h7 : a7.IsWhole) (x5 : Vec F S3136x1024 .i8) :
    Writes x5 (kernelRun0_A.sl.HS1_98 c a7 h7 x5) := by
  sl_unfold_words
  simp only [View.readAt_eq_ld, Memref.IsWhole.read_unread]
  iterate 49
    refine writes_high x5 _ rfl _ _ _ ⟨_, rfl⟩ ?_
    refine writes_low x5 _ _ _ _ ⟨_, rfl⟩ ?_
  exact fun _ h => absurd h List.not_mem_nil

end Cert.LinearIdeal.Weights
-- ==== Proof.LinearWeights.lean ====
/-
  What one point of the linear kernel leaves: the two weight buffers after a refill (`sout_A_0`, `sout_A_1`), and the
  output block through the two buffers, of a point that refills them (`out_A`) and of a point that keeps them (`out_B`).
-/
module

public import proofs.«01_k».proof.Proof.LinearUnpack

@[expose] public section

noncomputable section

open Idealize.ShloMosaic Idealize.ShloMosaic.TcCoe Idealize.SL.Sem

namespace Cert.LinearIdeal.Weights

open Cert.LinearIdeal Cert.LinearIdeal.Gen

variable {F : FTy → Type} [FloatOps F]

section Cases

variable (c : Dev nD) (i : grid0.Coords) (a2 : Memref sig .tc .vmem S512x896 .i8) (h2 : a2.IsWhole)
  (a3 : Memref sig .tc .vmem S512x6272 .i8) (h3 : a3.IsWhole) (a4 : Memref sig .tc .vmem S512x128 .f32) (h4 : a4.IsWhole)
  (a5 : Memref sig .tc .vmem S512x128 .f32) (h5 : a5.IsWhole) (a6 : Memref sig .tc .vmem S896x1024 .i8) (h6 : a6.IsWhole)
  (a7 : Memref sig .tc .vmem S3136x1024 .i8) (h7 : a7.IsWhole) (a8 : Memref sig .tc .vmem S1x1024 .f32) (h8 : a8.IsWhole)
  (a9 : Memref sig .tc .vmem S1x1024 .f32) (h9 : a9.IsWhole) (a10 : Memref sig .tc .vmem S512x1024 .bf16) (h10 : a10.IsWhole)
  (a11 : Memref sig .tc .vmem S896x1024 .bf16) (h11 : a11.IsWhole) (a12 : Memref sig .tc .vmem S6272x1024 .bf16)
  (h12 : a12.IsWhole) (x0 : Vec F S512x896 .i8) (x1 : Vec F S512x6272 .i8) (x2 x3 : Vec F S512x128 .f32)
  (x4 : Vec F S896x1024 .i8) (x5 : Vec F S3136x1024 .i8) (x6 x7 : Vec F S1x1024 .f32)

/-- The output block of a point, from its input blocks and the two weight buffers. -/
def block (x0 : Vec F S512x896 .i8) (x1 : Vec F S512x6272 .i8) (x2 x3 : Vec F S512x128 .f32) (x6 x7 : Vec F S1x1024 .f32)
    (wh : Vec F S896x1024 .bf16) (wl : Vec F S6272x1024 .bf16) : Vec F S512x1024 .bf16 :=
  k0_pay2 x0 wh x1 wl (View.ld x2 (Rect.unit (s := S512x128) ![0, 0] S512x1.size inb_S512x128_S512x1_0_0))
    (View.ld x3 (Rect.unit (s := S512x128) ![0, 0] S512x1.size inb_S512x128_S512x1_0_0)) x6 x7

/-- A refill leaves the unpacked weights in the second buffer. -/
theorem sout_A_1 (hc : cond0_0 i) :
    sout0_A_1 c i a2 h2 a3 h3 a4 h4 a5 h5 a6 h6 a7 h7 a8 h8 a9 h9 a10 h10 a11 h11 a12 h12 hc x0 x1 x2 x3 x4 x5 x6 x7 = unpacked x5 := by
  show VS0_1.read (Elt F) (VS0_1.writes (Elt F) VS0_1.junk (kernelRun0_A.sl.HS1_98 c a7 h7 x5)) = _
  have hcov : ∀ y, ∃ p ∈ kernelRun0_A.sl.HS1_98 c a7 h7 x5, y ∈ p.1.set :=
    scover0_A_1 c i a2 h2 a3 h3 a4 h4 a5 h5 a6 h6 a7 h7 a8 h8 a9 h9 a10 h10 a11 h11 a12 h12 hc x0 x1 x2 x3 x4 x5 x6 x7
  rw [View.read_writes_eq_canon _ _ _ hcov]
  funext y
  exact View.canon_apply_of_pieces _ _ (writes c a7 h7 x5) y (hcov y)

/-- A refill leaves the converted weights in the first buffer. -/
theorem sout_A_0 (hc : cond0_0 i) :
    sout0_A_0 c i a2 h2 a3 h3 a4 h4 a5 h5 a6 h6 a7 h7 a8 h8 a9 h9 a10 h10 a11 h11 a12 h12 hc x0 x1 x2 x3 x4 x5 x6 x7 = sitofp .bf16 x4 := by
  unfold sout0_A_0
  rw [View.read_writes_eq_canon _ _ _ (scover0_A_0 c i a2 h2 a3 h3 a4 h4 a5 h5 a6 h6 a7 h7 a8 h8 a9 h9 a10 h10 a11 h11 a12 h12 hc x0 x1 x2 x3 x4 x5 x6 x7)]
  unfold kernelRun0_A
  dsimp only
  sl_unfold_words
  rw [View.canon_cons_unit_lit _ _ _ (by decide)]
  unfold k0_pay3
  dsimp only
  rw [shapeCast_self, View.readAt_eq_ld, h6.read_unread, View.ld_unit_lit _ _ (by decide)]

/-- The output block of a point that refills: over the buffers just filled. -/
theorem out_A (hc : cond0_0 i) :
    out0_A_8 c i a2 h2 a3 h3 a4 h4 a5 h5 a6 h6 a7 h7 a8 h8 a9 h9 a10 h10 a11 h11 a12 h12 hc x0 x1 x2 x3 x4 x5 x6 x7
      = block x0 x1 x2 x3 x6 x7 (sitofp .bf16 x4) (unpacked x5) := by
  unfold out0_A_8
  rw [View.read_writes_eq_canon _ _ _ (cover0_A_8 c i a2 h2 a3 h3 a4 h4 a5 h5 a6 h6 a7 h7 a8 h8 a9 h9 a10 h10 a11 h11 a12 h12 hc x0 x1 x2 x3 x4 x5 x6 x7)]
  have hcov : ∀ y, ∃ p ∈ kernelRun0_A.sl.HS1_98 c a7 h7 x5, y ∈ p.1.set :=
    scover0_A_1 c i a2 h2 a3 h3 a4 h4 a5 h5 a6 h6 a7 h7 a8 h8 a9 h9 a10 h10 a11 h11 a12 h12 hc x0 x1 x2 x3 x4 x5 x6 x7
  have h9' : kernelRun0_A.sl.v9 c a7 h7 a12 x5 = unpacked x5 := by
    unfold kernelRun0_A.sl.v9 View.readCov
    rw [View.readAt_eq_ld, View.read_writes_eq_canon _ _ _ hcov, View.ld_unit_lit _ _ (by decide)]
    exact funext fun y => View.canon_apply_of_pieces _ _ (writes c a7 h7 x5) y (hcov y)
  have h5' : kernelRun0_A.sl.v5 c a6 h6 a11 x4 = sitofp .bf16 x4 := by
    unfold kernelRun0_A.sl.v5 kernelRun0_A.sl.HS0_1
    rw [View.readCov_unit_lit _ _ _ (by decide)]
    unfold k0_pay3
    dsimp only
    rw [shapeCast_self, View.readAt_eq_ld, h6.read_unread, View.ld_unit_lit _ _ (by decide)]
  unfold kernelRun0_A
  dsimp only
  rw [h9', h5', View.canon_cons_unit_lit _ _ _ (by decide)]
  simp only [View.readAt_eq_ld, Memref.IsWhole.read_unread]
  unfold block
  rw [View.ld_unit_lit _ _ (by decide), View.ld_unit_lit _ _ (by decide), View.ld_unit_lit _ _ (by decide), View.ld_unit_lit _ _ (by decide)]

/-- The output block of a point that keeps the buffers. -/
theorem out_B (hc : ¬ cond0_0 i) (xs0 : Vec F S896x1024 .bf16) (xs1 : Vec F S6272x1024 .bf16) :
    out0_B_8 c i a2 h2 a3 h3 a4 h4 a5 h5 a6 h6 a7 h7 a8 h8 a9 h9 a10 h10 a11 h11 a12 h12 hc x0 x1 x2 x3 x4 x5 x6 x7 xs0 xs1
      = block x0 x1 x2 x3 x6 x7 xs0 xs1 := by
  unfold out0_B_8
  rw [View.read_writes_eq_canon _ _ _ (cover0_B_8 c i a2 h2 a3 h3 a4 h4 a5 h5 a6 h6 a7 h7 a8 h8 a9 h9 a10 h10 a11 h11 a12 h12 hc x0 x1 x2 x3 x4 x5 x6 x7 xs0 xs1)]
  unfold kernelRun0_B
  dsimp only
  sl_unfold_words
  rw [View.canon_cons_unit_lit _ _ _ (by decide)]
  simp only [View.readAt_eq_ld, Memref.IsWhole.read_unread]
  unfold block
  rw [View.ld_unit_lit _ _ (by decide), View.ld_unit_lit _ _ (by decide), View.ld_unit_lit _ _ (by decide), View.ld_unit_lit _ _ (by decide), View.ld_unit_lit _ _ (by decide), View.ld_unit_lit _ _ (by decide)]

end Cases

end Cert.LinearIdeal.Weights
-- ==== Proof.LinearApply.lean ====
/-
  The two payloads of the linear claim read at an index: the kernel's output block (over its weight buffers) and the
  reference's whole array, both as the same sums of products over the reals extended by ±∞.
-/
module

public import proofs.«01_k».proof.Proof.LinearWeights
public import proofs.«01_k».proof.Proof.Gen.LinearReferenceIdeal.Value
public import Idealize.ShloMosaic.Lib.Pointwise

@[expose] public section

noncomputable section

open Idealize.ShloMosaic Idealize.ShloMosaic.TcCoe Idealize.SL.Sem

namespace Cert.LinearIdeal.Weights

open Cert.LinearIdeal Cert.LinearIdeal.Gen

/-- The kernel's output block at row `r`, column `l`. -/
theorem block_apply (x0 : Vec Ideal S512x896 .i8) (x1 : Vec Ideal S512x6272 .i8) (x2 x3 : Vec Ideal S512x128 .f32)
    (x6 x7 : Vec Ideal S1x1024 .f32) (wh : Vec Ideal S896x1024 .bf16) (wl : Vec Ideal S6272x1024 .bf16) (r : Fin 512) (l : Fin 1024) :
    block x0 x1 x2 x3 x6 x7 wh wl (ix2 r l)
      = x2 (ix2 r 0) * x6 (ix2 0 l) * (∑ k : Fin 896, FloatOps.sitofp (F := Ideal) .bf16 (x0 (ix2 r k)) * wh (ix2 k l))
        + x3 (ix2 r 0) * x7 (ix2 0 l) * (∑ k : Fin 6272, FloatOps.sitofp (F := Ideal) .bf16 (x1 (ix2 r k)) * wl (ix2 k l)) := by
  have e2 : ∀ x : Vec Ideal S512x128 .f32, View.ld x (Rect.unit (s := S512x128) ![0, 0] S512x1.size inb_S512x128_S512x1_0_0) (ix2 r 0) = x (ix2 r 0) :=
    fun x => View.ld_unit_apply_of x ![0, 0] S512x1.size _ _ _ (fun a => by match a with | ⟨0, _⟩ => exact (Nat.zero_add _).symm | ⟨1, _⟩ => rfl)
  rw [← e2 x2, ← e2 x3]
  unfold block
  generalize View.ld x2 _ = y2
  generalize View.ld x3 _ = y3
  pointwise [k0_pay2]

end Cert.LinearIdeal.Weights

namespace Cert.LinearReferenceIdeal.Apply

open Cert.LinearReferenceIdeal Cert.LinearReferenceIdeal.Gen

/-- The reference's array at row `r`, column `l`. -/
theorem ref_apply (P0 : Vec Ideal S16384x896 .i8) (P1 : Vec Ideal S896x18432 .i8) (P2 : Vec Ideal S16384x1 .f32) (P3 : Vec Ideal S1x18432 .f32)
    (P4 : Vec Ideal S16384x1 .f32) (P5 : Vec Ideal S1x18432 .f32) (P6 : Vec Ideal S3136x18432 .i8) (P7 : Vec Ideal S16384x6272 .i8)
    (r : Fin 16384) (l : Fin 18432) :
    k0_pay1 (k0_pay2 P6 P7) (k0_pay3 P0 P1 P2 P3) P4 P5 (ix2 r l)
      = P2 (ix2 r 0) * P3 (ix2 0 l) * (∑ k : Fin 896, FloatOps.sitofp (F := Ideal) .bf16 (P0 (ix2 r k)) * FloatOps.sitofp (F := Ideal) .bf16 (P1 (ix2 k l)))
        + P4 (ix2 r 0) * P5 (ix2 0 l) *
          ((∑ k : Fin 3136, FloatOps.sitofp (F := Ideal) .bf16 (P7 (ix2 r ⟨k.val, by omega⟩)) * FloatOps.sitofp (F := Ideal) .bf16 (Nibble.low (P6 (ix2 k l))))
            + ∑ k : Fin 3136, FloatOps.sitofp (F := Ideal) .bf16 (P7 (ix2 r ⟨3136 + k.val, by omega⟩)) * FloatOps.sitofp (F := Ideal) .bf16 (Nibble.high (P6 (ix2 k l)))) := by
  pointwise [k0_pay1, k0_pay2, k0_pay3]
  rfl

end Cert.LinearReferenceIdeal.Apply
-- ==== Proof.LinearKernel.lean ====
/-
  The linear kernel's result array. The weight buffers hold the weights of the point's own column block at every point
  (`held`: refilled at the first row block of a column block, kept at the other 31), so each output block is `block` of
  the point's own input blocks, and the array at row `r`, column `l` is `Spec.linear` (`result_apply`).
-/
module

public import proofs.«01_k».proof.Proof.LinearApply
public import proofs.«01_k».proof.Proof.LinearSpec
public import Idealize.ShloMosaic.Lib.Claim

@[expose] public section

noncomputable section

open Idealize.ShloMosaic Idealize.ShloMosaic.TcCoe Idealize.SL.Sem
open Idealize.ShloMosaic.Pipeline (Dat)

namespace Cert.LinearIdeal.Kernel

open Cert.LinearIdeal Cert.LinearIdeal.Gen Cert.LinearIdeal.Weights

section Held

variable {F : FTy → Type} [FloatOps F]
variable (m : (ℓ : Loc nD τ sig) → Buf (Elt F) ℓ)

/-- Which block each window has at point `t`: rows by `t mod 32`, columns by `t / 32`. -/
theorem index : ∀ t : Fin cfg0.N,
    win0_0.index t = ![t.val % 32, 0] ∧ win0_1.index t = ![t.val % 32, 0] ∧ win0_2.index t = ![t.val % 32, 0]
      ∧ win0_3.index t = ![t.val % 32, 0] ∧ win0_4.index t = ![0, t.val / 32] ∧ win0_5.index t = ![0, t.val / 32]
      ∧ win0_6.index t = ![0, t.val / 32] ∧ win0_7.index t = ![0, t.val / 32] :=
  (by decide +kernel : ∀ t : Fin grid0.N, _)

/-- The eight-bit activations' block. -/
theorem iblk0 (c : Dev nD) (t : Fin cfg0.N) (r : Fin 512) (k : Fin 896) (q : Fin 16384) (hq : q.val = t.val % 32 * 512 + r.val) :
    iblk m c 0 t (ix2 r k) = m ((c : Thread nD τ).loc main_arg0) (ix2 q k) := by
  obtain ⟨e, -⟩ := index t
  have h0 : (((cfg0.win 0).blk t).view.emb (ix2 r k) 0).val = win0_0.index t 0 * 512 + 1 * r.val := rfl
  have h1 : (((cfg0.win 0).blk t).view.emb (ix2 r k) 1).val = win0_0.index t 1 * 896 + 1 * k.val := rfl
  rw [← V_main_arg0 m c]
  refine congrArg (V m c main_arg0) (funext fun a => Fin.ext ?_)
  match a with
  | ⟨0, _⟩ => exact h0.trans (by rw [e]; show t.val % 32 * 512 + 1 * r.val = q.val; omega)
  | ⟨1, _⟩ => exact h1.trans (by rw [e]; show 0 * 896 + 1 * k.val = k.val; omega)

/-- The four-bit activations' block. -/
theorem iblk1 (c : Dev nD) (t : Fin cfg0.N) (r : Fin 512) (k : Fin 6272) (q : Fin 16384) (hq : q.val = t.val % 32 * 512 + r.val) :
    iblk m c 1 t (ix2 r k) = m ((c : Thread nD τ).loc main_arg1) (ix2 q k) := by
  obtain ⟨-, e, -⟩ := index t
  have h0 : (((cfg0.win 1).blk t).view.emb (ix2 r k) 0).val = win0_1.index t 0 * 512 + 1 * r.val := rfl
  have h1 : (((cfg0.win 1).blk t).view.emb (ix2 r k) 1).val = win0_1.index t 1 * 6272 + 1 * k.val := rfl
  rw [← V_main_arg1 m c]
  refine congrArg (V m c main_arg1) (funext fun a => Fin.ext ?_)
  match a with
  | ⟨0, _⟩ => exact h0.trans (by rw [e]; show t.val % 32 * 512 + 1 * r.val = q.val; omega)
  | ⟨1, _⟩ => exact h1.trans (by rw [e]; show 0 * 6272 + 1 * k.val = k.val; omega)

/-- The scales of the eight-bit part. -/
theorem iblk2 (c : Dev nD) (t : Fin cfg0.N) (r : Fin 512) (k : Fin 128) (q : Fin 16384) (hq : q.val = t.val % 32 * 512 + r.val) :
    iblk m c 2 t (ix2 r k) = m ((c : Thread nD τ).loc main_arg2) (ix2 q k) := by
  obtain ⟨-, -, e, -⟩ := index t
  have h0 : (((cfg0.win 2).blk t).view.emb (ix2 r k) 0).val = win0_2.index t 0 * 512 + 1 * r.val := rfl
  have h1 : (((cfg0.win 2).blk t).view.emb (ix2 r k) 1).val = win0_2.index t 1 * 128 + 1 * k.val := rfl
  rw [← V_main_arg2 m c]
  refine congrArg (V m c main_arg2) (funext fun a => Fin.ext ?_)
  match a with
  | ⟨0, _⟩ => exact h0.trans (by rw [e]; show t.val % 32 * 512 + 1 * r.val = q.val; omega)
  | ⟨1, _⟩ => exact h1.trans (by rw [e]; show 0 * 128 + 1 * k.val = k.val; omega)

/-- The scales of the four-bit part. -/
theorem iblk3 (c : Dev nD) (t : Fin cfg0.N) (r : Fin 512) (k : Fin 128) (q : Fin 16384) (hq : q.val = t.val % 32 * 512 + r.val) :
    iblk m c 3 t (ix2 r k) = m ((c : Thread nD τ).loc main_arg3) (ix2 q k) := by
  obtain ⟨-, -, -, e, -⟩ := index t
  have h0 : (((cfg0.win 3).blk t).view.emb (ix2 r k) 0).val = win0_3.index t 0 * 512 + 1 * r.val := rfl
  have h1 : (((cfg0.win 3).blk t).view.emb (ix2 r k) 1).val = win0_3.index t 1 * 128 + 1 * k.val := rfl
  rw [← V_main_arg3 m c]
  refine congrArg (V m c main_arg3) (funext fun a => Fin.ext ?_)
  match a with
  | ⟨0, _⟩ => exact h0.trans (by rw [e]; show t.val % 32 * 512 + 1 * r.val = q.val; omega)
  | ⟨1, _⟩ => exact h1.trans (by rw [e]; show 0 * 128 + 1 * k.val = k.val; omega)

/-- The eight-bit weights' block. -/
theorem iblk4 (c : Dev nD) (t : Fin cfg0.N) (k : Fin 896) (l : Fin 1024) (q : Fin 18432) (hq : q.val = t.val / 32 * 1024 + l.val) :
    iblk m c 4 t (ix2 k l) = m ((c : Thread nD τ).loc main_arg4) (ix2 k q) := by
  obtain ⟨-, -, -, -, e, -⟩ := index t
  have h0 : (((cfg0.win 4).blk t).view.emb (ix2 k l) 0).val = win0_4.index t 0 * 896 + 1 * k.val := rfl
  have h1 : (((cfg0.win 4).blk t).view.emb (ix2 k l) 1).val = win0_4.index t 1 * 1024 + 1 * l.val := rfl
  rw [← V_main_arg4 m c]
  refine congrArg (V m c main_arg4) (funext fun a => Fin.ext ?_)
  match a with
  | ⟨0, _⟩ => exact h0.trans (by rw [e]; show 0 * 896 + 1 * k.val = k.val; omega)
  | ⟨1, _⟩ => exact h1.trans (by rw [e]; show t.val / 32 * 1024 + 1 * l.val = q.val; omega)

/-- The packed four-bit weights' block. -/
theorem iblk5 (c : Dev nD) (t : Fin cfg0.N) (k : Fin 3136) (l : Fin 1024) (q : Fin 18432) (hq : q.val = t.val / 32 * 1024 + l.val) :
    iblk m c 5 t (ix2 k l) = m ((c : Thread nD τ).loc main_arg6) (ix2 k q) := by
  obtain ⟨-, -, -, -, -, e, -⟩ := index t
  have h0 : (((cfg0.win 5).blk t).view.emb (ix2 k l) 0).val = win0_5.index t 0 * 3136 + 1 * k.val := rfl
  have h1 : (((cfg0.win 5).blk t).view.emb (ix2 k l) 1).val = win0_5.index t 1 * 1024 + 1 * l.val := rfl
  rw [← V_main_arg6 m c]
  refine congrArg (V m c main_arg6) (funext fun a => Fin.ext ?_)
  match a with
  | ⟨0, _⟩ => exact h0.trans (by rw [e]; show 0 * 3136 + 1 * k.val = k.val; omega)
  | ⟨1, _⟩ => exact h1.trans (by rw [e]; show t.val / 32 * 1024 + 1 * l.val = q.val; omega)

/-- The eight-bit weights' scales. The program lays them out as one row first. -/
theorem iblk6 (c : Dev nD) (t : Fin cfg0.N) (l : Fin 1024) (q : Fin 18432) (hq : q.val = t.val / 32 * 1024 + l.val) :
    iblk m c 6 t (ix2 0 l) = m ((c : Thread nD τ).loc main_arg5) (ix1 q) := by
  obtain ⟨-, -, -, -, -, -, e, -⟩ := index t
  have h0 : (((cfg0.win 6).blk t).view.emb (ix2 0 l) 0).val = win0_6.index t 0 * 1 + 1 * 0 := rfl
  have h1 : (((cfg0.win 6).blk t).view.emb (ix2 0 l) 1).val = win0_6.index t 1 * 1024 + 1 * l.val := rfl
  have ei : ((cfg0.win 6).blk t).view.emb (ix2 0 l) = ix2 0 q := by
    funext a
    refine Fin.ext ?_
    match a with
    | ⟨0, _⟩ => exact h0.trans (by rw [e]; rfl)
    | ⟨1, _⟩ => exact h1.trans (by rw [e]; show t.val / 32 * 1024 + 1 * l.val = q.val; omega)
  refine (congrArg (V m c main_v0) ei).trans ?_
  entry_read
  pointwise

/-- The four-bit weights' scales. The program lays them out as one row first. -/
theorem iblk7 (c : Dev nD) (t : Fin cfg0.N) (l : Fin 1024) (q : Fin 18432) (hq : q.val = t.val / 32 * 1024 + l.val) :
    iblk m c 7 t (ix2 0 l) = m ((c : Thread nD τ).loc main_arg7) (ix1 q) := by
  obtain ⟨-, -, -, -, -, -, -, e⟩ := index t
  have h0 : (((cfg0.win 7).blk t).view.emb (ix2 0 l) 0).val = win0_7.index t 0 * 1 + 1 * 0 := rfl
  have h1 : (((cfg0.win 7).blk t).view.emb (ix2 0 l) 1).val = win0_7.index t 1 * 1024 + 1 * l.val := rfl
  have ei : ((cfg0.win 7).blk t).view.emb (ix2 0 l) = ix2 0 q := by
    funext a
    refine Fin.ext ?_
    match a with
    | ⟨0, _⟩ => exact h0.trans (by rw [e]; rfl)
    | ⟨1, _⟩ => exact h1.trans (by rw [e]; show t.val / 32 * 1024 + 1 * l.val = q.val; omega)
  refine (congrArg (V m c main_v1) ei).trans ?_
  entry_read
  pointwise

/-- Two points of the same column block have the same weights' blocks. -/
theorem iblk4_congr (c : Dev nD) (t t' : Fin cfg0.N) (h : t.val / 32 = t'.val / 32) : iblk m c 4 t = iblk m c 4 t' := by
  funext y
  have hN : t.val < 576 := lt_of_lt_of_eq t.isLt N_0
  obtain ⟨k, l, rfl⟩ : ∃ (k : Fin 896) (l : Fin 1024), y = ix2 k l := ⟨y 0, y 1, eq_ix2 (n0 := 896) (n1 := 1024) y⟩
  exact (iblk4 m c t k l ⟨t.val / 32 * 1024 + l.val, by omega⟩ rfl).trans
    (iblk4 m c t' k l ⟨t.val / 32 * 1024 + l.val, by omega⟩ (by rw [← h])).symm

theorem iblk5_congr (c : Dev nD) (t t' : Fin cfg0.N) (h : t.val / 32 = t'.val / 32) : iblk m c 5 t = iblk m c 5 t' := by
  funext y
  have hN : t.val < 576 := lt_of_lt_of_eq t.isLt N_0
  obtain ⟨k, l, rfl⟩ : ∃ (k : Fin 3136) (l : Fin 1024), y = ix2 k l := ⟨y 0, y 1, eq_ix2 (n0 := 3136) (n1 := 1024) y⟩
  exact (iblk5 m c t k l ⟨t.val / 32 * 1024 + l.val, by omega⟩ rfl).trans
    (iblk5 m c t' k l ⟨t.val / 32 * 1024 + l.val, by omega⟩ (by rw [← h])).symm

/-- WHAT EVERY POINT LEAVES: its output block over its own weights, and those weights in the two buffers. -/
theorem held (c : Dev nD) : ∀ (n : ℕ) (hn : n < cfg0.N),
    outsAt0 m c n hn
      = (block (iblk m c 0 ⟨n, hn⟩) (iblk m c 1 ⟨n, hn⟩) (iblk m c 2 ⟨n, hn⟩) (iblk m c 3 ⟨n, hn⟩) (iblk m c 6 ⟨n, hn⟩) (iblk m c 7 ⟨n, hn⟩)
          (sitofp .bf16 (iblk m c 4 ⟨n, hn⟩)) (unpacked (iblk m c 5 ⟨n, hn⟩)),
        sitofp .bf16 (iblk m c 4 ⟨n, hn⟩), unpacked (iblk m c 5 ⟨n, hn⟩)) := by
  intro n
  induction n with
  | zero =>
    intro hn
    rw [outsAt0_A m c ⟨0, hn⟩ (Nat.zero_mod _), out_A, sout_A_0, sout_A_1]
  | succ n ih =>
    intro hn
    by_cases h : (n + 1) % 32 = 0
    · rw [outsAt0_A m c ⟨n + 1, hn⟩ h, out_A, sout_A_0, sout_A_1]
    · have hp := ih (Nat.lt_of_succ_lt hn)
      have e4 := iblk4_congr m c ⟨n, Nat.lt_of_succ_lt hn⟩ ⟨n + 1, hn⟩ (by show n / 32 = (n + 1) / 32; omega)
      have e5 := iblk5_congr m c ⟨n, Nat.lt_of_succ_lt hn⟩ ⟨n + 1, hn⟩ (by show n / 32 = (n + 1) / 32; omega)
      rw [e4, e5] at hp
      rw [outsAt0_B m c ⟨n + 1, hn⟩ h, out_B]
      unfold sout0_B_0 sout0_B_1
      simp only [Nat.add_sub_cancel]
      rw [hp]

end Held

/-! ## Over the reals -/

variable (m : (ℓ : Loc nD τ sig) → Buf (Elt Ideal) ℓ)

/-- One point's block at its row `i`, column `j` is the result at the row and column of the whole array. -/
theorem block_at (c : Dev nD) (t : Fin cfg0.N) (i : Fin 512) (j : Fin 1024) (r : Fin 16384) (l : Fin 18432)
    (hr : r.val = t.val % 32 * 512 + i.val) (hl : l.val = t.val / 32 * 1024 + j.val) :
    block (iblk m c 0 t) (iblk m c 1 t) (iblk m c 2 t) (iblk m c 3 t) (iblk m c 6 t) (iblk m c 7 t)
        (sitofp (F := Ideal) (s := S896x1024) .bf16 (iblk m c 4 t)) (unpacked (iblk m c 5 t)) (ix2 i j)
      = Spec.linear (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) r l := by
  rw [block_apply, Spec.sum_halves]
  unfold Spec.linear
  rw [iblk2 m c t i 0 r hr, iblk3 m c t i 0 r hr, iblk6 m c t j l hl, iblk7 m c t j l hl]
  refine congrArg₂ (· + ·) (congrArg₂ (· * ·) rfl ?_) (congrArg₂ (· * ·) rfl (congrArg₂ (· + ·) ?_ ?_))
  · refine Finset.sum_congr rfl fun k _ => ?_
    rw [iblk0 m c t i k r hr]
    show _ * FloatOps.sitofp .bf16 (iblk m c 4 t (ix2 k j)) = _
    rw [iblk4 m c t k j l hl]
  · refine Finset.sum_congr rfl fun k _ => ?_
    rw [iblk1 m c t i ⟨k.val, by omega⟩ r hr, unpacked_low _ (ix2 ⟨k.val, by omega⟩ j) (ix2 k j) rfl rfl, iblk5 m c t k j l hl]
  · refine Finset.sum_congr rfl fun k _ => ?_
    rw [iblk1 m c t i ⟨3136 + k.val, by omega⟩ r hr, unpacked_high _ (ix2 ⟨3136 + k.val, by omega⟩ j) (ix2 k j) rfl rfl,
      iblk5 m c t k j l hl]

/-- THE RESULT ARRAY at row `r`, column `l`. -/
theorem result_apply (c : Dev nD) (r : Fin 16384) (l : Fin 18432) :
    Value.G8 m c (ix2 r l)
      = Spec.linear (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) r l := by
  have hN : cfg0.N = 576 := N_0
  have hp : Value.pt8Of (ix2 r l) = r.val / 512 + 32 * (l.val / 1024) := by
    show 1 * (r.val / 512 - 0) + 32 * (l.val / 1024 - 0) = _
    omega
  have ht : Value.pt8Of (ix2 r l) < cfg0.N := by rw [hp, hN]; omega
  have el : Value.loc8Of (ix2 r l) = ix2 ⟨r.val % 512, by omega⟩ ⟨l.val % 1024, by omega⟩ := by
    funext a; match a with | ⟨0, _⟩ => rfl | ⟨1, _⟩ => rfl
  unfold Value.G8
  rw [dif_pos ht, ← Value.outsAt0_sweep m c _ ht, held m c _ ht, el]
  exact block_at m c ⟨_, ht⟩ ⟨r.val % 512, by omega⟩ ⟨l.val % 1024, by omega⟩ r l
    (by show r.val = Value.pt8Of (ix2 r l) % 32 * 512 + r.val % 512; rw [hp]; omega)
    (by show l.val = Value.pt8Of (ix2 r l) / 32 * 1024 + l.val % 1024; rw [hp]; omega)

end Cert.LinearIdeal.Kernel
-- ==== Proof.LinearReference.lean ====
/-
  THE REFERENCE of the linear layer, which works on the whole arrays at once: its result array, read at a row and a
  column, is `Spec.linear` of its arguments.
-/
module

public import proofs.«01_k».proof.Proof.LinearApply
public import Idealize.ShloMosaic.Lib.Claim
public import Idealize.ShloMosaic.Lib.Pipeline.Value
public import Idealize.ShloMosaic.Lib.Pipeline.ValueKit

@[expose] public section

noncomputable section

open Idealize.ShloMosaic Idealize.ShloMosaic.TcCoe Idealize.SL.Sem
open Idealize.ShloMosaic.Pipeline (Dat)

namespace Cert.LinearReferenceIdeal.Whole

open Cert.LinearReferenceIdeal Cert.LinearReferenceIdeal.Gen

variable (m : (ℓ : Loc nD τ sig) → Buf (Elt Ideal) ℓ)

/-- Every window's one block is the block at the origin. -/
theorem index (t : Fin cfg0.N) : win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] := by
  rcases fin_N0 t with rfl
  decide +kernel

/-- The block of argument `main_arg0` is the argument. -/
theorem iblk0 (c : Dev nD) (t : Fin cfg0.N) (i : Fin 16384) (j : Fin 896) : iblk m c 0 t (ix2 i j) = m ((c : Thread nD τ).loc main_arg0) (ix2 i j) := by
  obtain ⟨e, -⟩ := index t
  have h0 : (((cfg0.win 0).blk t).view.emb (ix2 i j) 0).val = win0_0.index t 0 * 16384 + 1 * i.val := rfl
  have h1 : (((cfg0.win 0).blk t).view.emb (ix2 i j) 1).val = win0_0.index t 1 * 896 + 1 * j.val := rfl
  rw [← V_main_arg0 m c]
  refine congrArg (V m c main_arg0) (funext fun a => Fin.ext ?_)
  match a with
  | ⟨0, _⟩ => exact h0.trans (by rw [e]; show 0 * 16384 + 1 * i.val = i.val; omega)
  | ⟨1, _⟩ => exact h1.trans (by rw [e]; show 0 * 896 + 1 * j.val = j.val; omega)

/-- The block of argument `main_arg1` is the argument. -/
theorem iblk1 (c : Dev nD) (t : Fin cfg0.N) (i : Fin 16384) (j : Fin 6272) : iblk m c 1 t (ix2 i j) = m ((c : Thread nD τ).loc main_arg1) (ix2 i j) := by
  obtain ⟨-, e, -⟩ := index t
  have h0 : (((cfg0.win 1).blk t).view.emb (ix2 i j) 0).val = win0_1.index t 0 * 16384 + 1 * i.val := rfl
  have h1 : (((cfg0.win 1).blk t).view.emb (ix2 i j) 1).val = win0_1.index t 1 * 6272 + 1 * j.val := rfl
  rw [← V_main_arg1 m c]
  refine congrArg (V m c main_arg1) (funext fun a => Fin.ext ?_)
  match a with
  | ⟨0, _⟩ => exact h0.trans (by rw [e]; show 0 * 16384 + 1 * i.val = i.val; omega)
  | ⟨1, _⟩ => exact h1.trans (by rw [e]; show 0 * 6272 + 1 * j.val = j.val; omega)

/-- The block of argument `main_arg2` is the argument. -/
theorem iblk2 (c : Dev nD) (t : Fin cfg0.N) (i : Fin 16384) (j : Fin 128) : iblk m c 2 t (ix2 i j) = m ((c : Thread nD τ).loc main_arg2) (ix2 i j) := by
  obtain ⟨-, -, e, -⟩ := index t
  have h0 : (((cfg0.win 2).blk t).view.emb (ix2 i j) 0).val = win0_2.index t 0 * 16384 + 1 * i.val := rfl
  have h1 : (((cfg0.win 2).blk t).view.emb (ix2 i j) 1).val = win0_2.index t 1 * 128 + 1 * j.val := rfl
  rw [← V_main_arg2 m c]
  refine congrArg (V m c main_arg2) (funext fun a => Fin.ext ?_)
  match a with
  | ⟨0, _⟩ => exact h0.trans (by rw [e]; show 0 * 16384 + 1 * i.val = i.val; omega)
  | ⟨1, _⟩ => exact h1.trans (by rw [e]; show 0 * 128 + 1 * j.val = j.val; omega)

/-- The block of argument `main_arg3` is the argument. -/
theorem iblk3 (c : Dev nD) (t : Fin cfg0.N) (i : Fin 16384) (j : Fin 128) : iblk m c 3 t (ix2 i j) = m ((c : Thread nD τ).loc main_arg3) (ix2 i j) := by
  obtain ⟨-, -, -, e, -⟩ := index t
  have h0 : (((cfg0.win 3).blk t).view.emb (ix2 i j) 0).val = win0_3.index t 0 * 16384 + 1 * i.val := rfl
  have h1 : (((cfg0.win 3).blk t).view.emb (ix2 i j) 1).val = win0_3.index t 1 * 128 + 1 * j.val := rfl
  rw [← V_main_arg3 m c]
  refine congrArg (V m c main_arg3) (funext fun a => Fin.ext ?_)
  match a with
  | ⟨0, _⟩ => exact h0.trans (by rw [e]; show 0 * 16384 + 1 * i.val = i.val; omega)
  | ⟨1, _⟩ => exact h1.trans (by rw [e]; show 0 * 128 + 1 * j.val = j.val; omega)

/-- The block of argument `main_arg4` is the argument. -/
theorem iblk4 (c : Dev nD) (t : Fin cfg0.N) (i : Fin 896) (j : Fin 18432) : iblk m c 4 t (ix2 i j) = m ((c : Thread nD τ).loc main_arg4) (ix2 i j) := by
  obtain ⟨-, -, -, -, e, -⟩ := index t
  have h0 : (((cfg0.win 4).blk t).view.emb (ix2 i j) 0).val = win0_4.index t 0 * 896 + 1 * i.val := rfl
  have h1 : (((cfg0.win 4).blk t).view.emb (ix2 i j) 1).val = win0_4.index t 1 * 18432 + 1 * j.val := rfl
  rw [← V_main_arg4 m c]
  refine congrArg (V m c main_arg4) (funext fun a => Fin.ext ?_)
  match a with
  | ⟨0, _⟩ => exact h0.trans (by rw [e]; show 0 * 896 + 1 * i.val = i.val; omega)
  | ⟨1, _⟩ => exact h1.trans (by rw [e]; show 0 * 18432 + 1 * j.val = j.val; omega)

/-- The block of argument `main_arg6` is the argument. -/
theorem iblk6 (c : Dev nD) (t : Fin cfg0.N) (i : Fin 3136) (j : Fin 18432) : iblk m c 6 t (ix2 i j) = m ((c : Thread nD τ).loc main_arg6) (ix2 i j) := by
  obtain ⟨-, -, -, -, -, -, e, -⟩ := index t
  have h0 : (((cfg0.win 6).blk t).view.emb (ix2 i j) 0).val = win0_6.index t 0 * 3136 + 1 * i.val := rfl
  have h1 : (((cfg0.win 6).blk t).view.emb (ix2 i j) 1).val = win0_6.index t 1 * 18432 + 1 * j.val := rfl
  rw [← V_main_arg6 m c]
  refine congrArg (V m c main_arg6) (funext fun a => Fin.ext ?_)
  match a with
  | ⟨0, _⟩ => exact h0.trans (by rw [e]; show 0 * 3136 + 1 * i.val = i.val; omega)
  | ⟨1, _⟩ => exact h1.trans (by rw [e]; show 0 * 18432 + 1 * j.val = j.val; omega)

/-- The block of argument `main_arg5`, laid out as one row, is the argument. -/
theorem iblk5 (c : Dev nD) (t : Fin cfg0.N) (l : Fin 18432) : iblk m c 5 t (ix2 0 l) = m ((c : Thread nD τ).loc main_arg5) (ix1 l) := by
  obtain ⟨-, -, -, -, -, e, -⟩ := index t
  have h0 : (((cfg0.win 5).blk t).view.emb (ix2 0 l) 0).val = win0_5.index t 0 * 1 + 1 * 0 := rfl
  have h1 : (((cfg0.win 5).blk t).view.emb (ix2 0 l) 1).val = win0_5.index t 1 * 18432 + 1 * l.val := rfl
  have ei : ((cfg0.win 5).blk t).view.emb (ix2 0 l) = ix2 0 l := by
    funext a
    refine Fin.ext ?_
    match a with
    | ⟨0, _⟩ => exact h0.trans (by rw [e]; rfl)
    | ⟨1, _⟩ => exact h1.trans (by rw [e]; show 0 * 18432 + 1 * l.val = l.val; omega)
  refine (congrArg (V m c main_v0) ei).trans ?_
  entry_read
  pointwise

/-- The block of argument `main_arg7`, laid out as one row, is the argument. -/
theorem iblk7 (c : Dev nD) (t : Fin cfg0.N) (l : Fin 18432) : iblk m c 7 t (ix2 0 l) = m ((c : Thread nD τ).loc main_arg7) (ix1 l) := by
  obtain ⟨-, -, -, -, -, -, -, e, -⟩ := index t
  have h0 : (((cfg0.win 7).blk t).view.emb (ix2 0 l) 0).val = win0_7.index t 0 * 1 + 1 * 0 := rfl
  have h1 : (((cfg0.win 7).blk t).view.emb (ix2 0 l) 1).val = win0_7.index t 1 * 18432 + 1 * l.val := rfl
  have ei : ((cfg0.win 7).blk t).view.emb (ix2 0 l) = ix2 0 l := by
    funext a
    refine Fin.ext ?_
    match a with
    | ⟨0, _⟩ => exact h0.trans (by rw [e]; rfl)
    | ⟨1, _⟩ => exact h1.trans (by rw [e]; show 0 * 18432 + 1 * l.val = l.val; omega)
  refine (congrArg (V m c main_v1) ei).trans ?_
  entry_read
  pointwise

theorem hz : (![0, 0] : Fin 2 → Nat) = fun _ => 0 := funext fun a => by match a with | ⟨0, _⟩ => rfl | ⟨1, _⟩ => rfl

/-- The one column loaded of a scales' array is its column 0. -/
theorem ld_col (x : Vec Ideal S16384x128 .f32) (r : Fin 16384) : View.ld x r0_4 (ix2 r 0) = x (ix2 r 0) :=
  View.ld_unit_apply_of x ![0, 0] S16384x1.size _ _ _ (fun a => by match a with | ⟨0, _⟩ => exact (Nat.zero_add _).symm | ⟨1, _⟩ => rfl)

/-- Reading an array through the result's one block reads it at the same index. -/
theorem read8 (A : Vec Ideal S16384x18432 .bf16) (r : Fin 16384) (l : Fin 18432) :
    ((cfg0.win 8).blk t0_0).view.read (Elt Ideal) A (ix2 r l) = A (ix2 r l) := by
  obtain ⟨-, -, -, -, -, -, -, -, e⟩ := index t0_0
  have h0 : (((cfg0.win 8).blk t0_0).view.emb (ix2 r l) 0).val = win0_8.index t0_0 0 * 16384 + 1 * r.val := rfl
  have h1 : (((cfg0.win 8).blk t0_0).view.emb (ix2 r l) 1).val = win0_8.index t0_0 1 * 18432 + 1 * l.val := rfl
  refine congrArg A (funext fun a => Fin.ext ?_)
  match a with
  | ⟨0, _⟩ => exact h0.trans (by rw [e]; show 0 * 16384 + 1 * r.val = r.val; omega)
  | ⟨1, _⟩ => exact h1.trans (by rw [e]; show 0 * 18432 + 1 * l.val = l.val; omega)

/-- The write-back cuts nothing off. -/
theorem cut8 (A : Vec Ideal S16384x18432 .bf16) (r : Fin 16384) (l : Fin 18432) :
    (cfg0.win 8).cut (grid0.coords t0_0) A (ix2 r l) = A (ix2 r l) := rfl

/-- THE RESULT ARRAY at row `r`, column `l`. -/
theorem result_apply (c : Dev nD) (r : Fin 16384) (l : Fin 18432) :
    (dats m 0 c).arrAt 8 cfg0.N (ix2 r l)
      = Spec.linear (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) r l := by
  have hb := congrFun ((Value.blocks8 m c t0_0 (flush0_8 t0_0)).trans (Value.flushed8 m c t0_0)) (ix2 r l)
  refine (read8 _ r l).symm.trans (hb.trans ((cut8 _ r l).trans ?_))
  unfold out0_8
  rw [View.canon_unit_zero hz, View.ld_unit_zero hz, View.ld_unit_zero hz, View.ld_unit_zero hz, View.ld_unit_zero hz, View.ld_unit_zero hz,
    View.ld_unit_zero hz, Apply.ref_apply, ld_col, ld_col]
  unfold Spec.linear
  rw [iblk2 m c t0_0 r 0, iblk3 m c t0_0 r 0, iblk5 m c t0_0 l, iblk7 m c t0_0 l]
  refine congrArg₂ (· + ·) (congrArg₂ (· * ·) rfl ?_) (congrArg₂ (· * ·) rfl (congrArg₂ (· + ·) ?_ ?_))
  · refine Finset.sum_congr rfl fun k _ => ?_
    rw [iblk0 m c t0_0 r k, iblk4 m c t0_0 k l]
  · refine Finset.sum_congr rfl fun k _ => ?_
    rw [iblk1 m c t0_0 r ⟨k.val, by omega⟩, iblk6 m c t0_0 k l]
  · refine Finset.sum_congr rfl fun k _ => ?_
    rw [iblk1 m c t0_0 r ⟨3136 + k.val, by omega⟩, iblk6 m c t0_0 k l]

end Cert.LinearReferenceIdeal.Whole
-- ==== Proof.LinearClaim.lean ====
/-
  THE VALUE CLAIM of the linear layer over the reals: the kernel's result array and the reference's are the same array.
-/
module

public import proofs.«01_k».proof.Defs
public import proofs.«01_k».proof.Proof.LinearKernel
public import proofs.«01_k».proof.Proof.LinearReference

@[expose] public section

noncomputable section

open Idealize.ShloMosaic Idealize.ShloMosaic.TcCoe Idealize.SL.Sem

namespace Cert.Proof.LinearClaim

/-- The reference ends with the kernel's result array, when both start from the same arguments. -/
theorem same (m : (ℓ : Loc Cert.LinearIdeal.nD Cert.LinearIdeal.τ Cert.LinearIdeal.sig) → Buf (Elt Ideal) ℓ)
    (m' : (ℓ : Loc Cert.LinearReferenceIdeal.nD Cert.LinearReferenceIdeal.τ Cert.LinearReferenceIdeal.sig) → Buf (Elt Ideal) ℓ)
    (c : Dev Cert.LinearIdeal.nD)
    (h0 : m' ((c.tc : Thread _ Cert.LinearReferenceIdeal.τ).loc Cert.LinearReferenceIdeal.main_arg0) = m ((c.tc : Thread _ Cert.LinearIdeal.τ).loc Cert.LinearIdeal.main_arg0))
    (h1 : m' ((c.tc : Thread _ Cert.LinearReferenceIdeal.τ).loc Cert.LinearReferenceIdeal.main_arg1) = m ((c.tc : Thread _ Cert.LinearIdeal.τ).loc Cert.LinearIdeal.main_arg1))
    (h2 : m' ((c.tc : Thread _ Cert.LinearReferenceIdeal.τ).loc Cert.LinearReferenceIdeal.main_arg2) = m ((c.tc : Thread _ Cert.LinearIdeal.τ).loc Cert.LinearIdeal.main_arg2))
    (h3 : m' ((c.tc : Thread _ Cert.LinearReferenceIdeal.τ).loc Cert.LinearReferenceIdeal.main_arg3) = m ((c.tc : Thread _ Cert.LinearIdeal.τ).loc Cert.LinearIdeal.main_arg3))
    (h4 : m' ((c.tc : Thread _ Cert.LinearReferenceIdeal.τ).loc Cert.LinearReferenceIdeal.main_arg4) = m ((c.tc : Thread _ Cert.LinearIdeal.τ).loc Cert.LinearIdeal.main_arg4))
    (h5 : m' ((c.tc : Thread _ Cert.LinearReferenceIdeal.τ).loc Cert.LinearReferenceIdeal.main_arg5) = m ((c.tc : Thread _ Cert.LinearIdeal.τ).loc Cert.LinearIdeal.main_arg5))
    (h6 : m' ((c.tc : Thread _ Cert.LinearReferenceIdeal.τ).loc Cert.LinearReferenceIdeal.main_arg6) = m ((c.tc : Thread _ Cert.LinearIdeal.τ).loc Cert.LinearIdeal.main_arg6))
    (h7 : m' ((c.tc : Thread _ Cert.LinearReferenceIdeal.τ).loc Cert.LinearReferenceIdeal.main_arg7) = m ((c.tc : Thread _ Cert.LinearIdeal.τ).loc Cert.LinearIdeal.main_arg7)) :
    (Cert.LinearReferenceIdeal.Gen.dats m' 0 c).arrAt 8 Cert.LinearReferenceIdeal.cfg0.N = Cert.LinearIdeal.Value.G8 m c := by
  funext i
  obtain ⟨r, l, rfl⟩ : ∃ (r : Fin 16384) (l : Fin 18432), i = ix2 r l := ⟨i 0, i 1, eq_ix2 (n0 := 16384) (n1 := 18432) i⟩
  refine (Cert.LinearReferenceIdeal.Whole.result_apply m' c r l).trans
    (Eq.trans ?_ (Cert.LinearIdeal.Kernel.result_apply m c r l).symm)
  rw [h0, h1, h2, h3, h4, h5, h6, h7]

/-- THE CLAIM. -/
theorem algebraic [Cert.LinearIdeal.Facts] [Cert.LinearReferenceIdeal.Facts] : Cert.algebraic_LinearIdeal_LinearReferenceIdeal := by
  intro m g m' g' _ hagree
  refine ⟨fun c => Cert.LinearIdeal.Value.G8 m c, Cert.LinearIdeal.Value.run m g, ?_⟩
  refine (θ_run Cert.LinearReferenceIdeal.defs _ _).mono (fun r h c => ?_) (Cert.LinearReferenceIdeal.Value.run_blocks m' g')
  obtain ⟨a0, a1, a2, a3, a4, a5, a6, a7⟩ := hagree c
  exact ⟨(h c).1.trans (same m m' c a0 a1 a2 a3 a4 a5 a6 a7), (h c).2⟩

end Cert.Proof.LinearClaim
-- ==== Proof.lean ====
/-
  The proof of `Cert.Claim`: every program runs to its end, leaves its arguments unchanged and its semaphores at zero
  (the generated frame proofs), the idealization rewrote nothing, and the kernel's result array equals the reference's
  (`LinearClaim`).
-/
module

public import proofs.«01_k».proof.Defs
public import proofs.«01_k».proof.Proof.Gen.Linear.Frame
public import proofs.«01_k».proof.Proof.Gen.LinearIdeal.Frame
public import proofs.«01_k».proof.Proof.Gen.LinearReferenceIdeal.Frame
public import proofs.«01_k».proof.Proof.LinearClaim
public import Idealize.ShloMosaic.Adequacy
public import Idealize.ShloMosaic.Init

@[expose] public section

noncomputable section

namespace Cert.Proof

open Idealize.ShloMosaic Idealize.SL.Sem Cert.Linear

theorem claim : Cert.Claim :=
  ⟨Cert.Linear.Gen.facts, Cert.LinearIdeal.Gen.facts, Cert.LinearReferenceIdeal.Gen.facts,
  fun m ρ _ => Cert.Linear.Gen.frame m ρ,
  fun m ρ _ => Cert.LinearIdeal.Gen.frame m ρ, fun m ρ _ => Cert.LinearReferenceIdeal.Gen.frame m ρ, trivial, LinearClaim.algebraic⟩

end Cert.Proof

end
